-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_and_identity [hPre_labels_and_identity : Cert.Pre_labels_and_identity.Facts] (m : (ℓ : Loc Cert.KernelIdeal.nD Cert.KernelIdeal.τ Cert.KernelIdeal.sig) → Buf (Elt Ideal) ℓ) : Prop :=
  ∀ c : Dev Cert.KernelIdeal.nD,
    (Cert.Pre_labels_and_identity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_and_identity [hPre_labels_and_identity : Cert.Pre_labels_and_identity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_and_identity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_labels_and_identity [hKernelIdeal : Cert.KernelIdeal.Facts] [hPre_labels_and_identity : Cert.Pre_labels_and_identity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_and_identity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_and_identity [hReferenceIdeal : Cert.ReferenceIdeal.Facts] [hPre_labels_and_identity : Cert.Pre_labels_and_identity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_and_identity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_labels_and_identity [hKernelIdeal : Cert.KernelIdeal.Facts] [hReferenceIdeal : Cert.ReferenceIdeal.Facts] [hPre_labels_and_identity : Cert.Pre_labels_and_identity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_and_identity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_and_identity : Cert.Pre_labels_and_identity.Facts),
    quiescent_Kernel (hKernel := hKernel)
    ∧ quiescent_KernelIdeal (hKernelIdeal := hKernelIdeal)
    ∧ quiescent_KernelIdeal_pre_labels_and_identity (hKernelIdeal := hKernelIdeal) (hPre_labels_and_identity := hPre_labels_and_identity)
    ∧ quiescent_ReferenceIdeal (hReferenceIdeal := hReferenceIdeal)
    ∧ quiescent_ReferenceIdeal_pre_labels_and_identity (hReferenceIdeal := hReferenceIdeal) (hPre_labels_and_identity := hPre_labels_and_identity)
    ∧ preserves_Kernel_KernelIdeal
    ∧ algebraic_KernelIdeal_ReferenceIdeal_pre_labels_and_identity (hKernelIdeal := hKernelIdeal) (hReferenceIdeal := hReferenceIdeal) (hPre_labels_and_identity := hPre_labels_and_identity)
-- ==== Pre_labels_and_identity.lean ====
abbrev S1024x50 : Shape := ⟨2, ![1024, 50]⟩
abbrev S1000x1000 : Shape := ⟨2, ![1000, 1000]⟩
abbrev S_ : Shape := ⟨0, ![]⟩

class Facts : Prop where
  bcast_S_S1000x1000 : S_.BroadcastsInDim S1000x1000 (![] : Fin 0 → Fin S1000x1000.rank)
  bcast_S_S1024x50 : S_.BroadcastsInDim S1024x50 (![] : Fin 0 → Fin S1024x50.rank)
  reducesTo_S1024x50_S_d0_1 : S1024x50.ReducesTo [0, 1] S_
  h_S_ : 0 < S_.numel
  reducesTo_S1000x1000_S_d0_1 : S1000x1000.ReducesTo [0, 1] S_

variable [Facts]

def fn_where {F : FTy → Type} [FloatOps F] (arg0 : IVec S1000x1000 1) (arg1 : FVec F S_ .f32) (arg2 : FVec F S_ .f32) : FVec F S1000x1000 .f32 :=
  let v0 : FVec F S1000x1000 .f32 := broadcastInDim S1000x1000 ![] bcast_S_S1000x1000 arg1
  let v1 : FVec F S1000x1000 .f32 := broadcastInDim S1000x1000 ![] bcast_S_S1000x1000 arg2
  let v2 : FVec F S1000x1000 .f32 := select arg0 v0 v1
  v2

def fn {F : FTy → Type} [FloatOps F] (main_arg0 : IVec S1024x50 32) (main_arg1 : FVec F S1000x1000 .f32) : IVec S_ 1 :=
  let main_v0 : IVec S1000x1000 32 := iotaInDim S1000x1000 32 0
  let main_v1 : IVec S1000x1000 32 := iotaInDim S1000x1000 32 1
  let main_v2 : IVec S1000x1000 1 := cmpi .eq main_v0 main_v1
  let main_cst : FVec F S_ .f32 := constant S_ .f32 0x3F800000#32
  let main_cst_0 : FVec F S_ .f32 := constant S_ .f32 0x00000000#32
  let main_v3 : FVec F S1000x1000 .f32 := fn_where (F := F) main_v2 main_cst main_cst_0
  let main_c : IVec S_ 32 := constantI S_ 32 0#32
  let main_v4 : IVec S1024x50 32 := broadcastInDim S1024x50 ![] bcast_S_S1024x50 main_c
  let main_v5 : IVec S1024x50 1 := cmpi .sge main_arg0 main_v4
  let main_c_1 : IVec S_ 32 := constantI S_ 32 1000#32
  let main_v6 : IVec S1024x50 32 := broadcastInDim S1024x50 ![] bcast_S_S1024x50 main_c_1
  let main_v7 : IVec S1024x50 1 := cmpi .slt main_arg0 main_v6
  let main_v8 : IVec S1024x50 1 := andi main_v5 main_v7
  let main_c_2 : IVec S_ 1 := constantI S_ 1 1#1
  let main_v9 : IVec S_ 1 := (fun x v => Host.reduce IntOp.andi x v reducesTo_S1024x50_S_d0_1 h_S_) main_v8 main_c_2
  let main_v10 : IVec S1000x1000 1 := cmpf .oeq main_arg1 main_v3
  let main_c_3 : IVec S_ 1 := constantI S_ 1 1#1
  let main_v11 : IVec S_ 1 := (fun x v => Host.reduce IntOp.andi x v reducesTo_S1000x1000_S_d0_1 h_S_) main_v10 main_c_3
  let main_v12 : IVec S_ 1 := andi main_v9 main_v11
  main_v12
-- ==== Kernel.lean ====
abbrev S1024x50 : Shape := ⟨2, ![1024, 50]⟩
abbrev S1000x1000 : Shape := ⟨2, ![1000, 1000]⟩
abbrev S50x1024 : Shape := ⟨2, ![50, 1024]⟩
abbrev S50x1x1024 : Shape := ⟨3, ![50, 1, 1024]⟩
abbrev S50x1000x1024 : Shape := ⟨3, ![50, 1000, 1024]⟩
abbrev S1x1x1024 : Shape := ⟨3, ![1, 1, 1024]⟩
abbrev S1x1000x1024 : Shape := ⟨3, ![1, 1000, 1024]⟩
abbrev S1x1024 : Shape := ⟨2, ![1, 1024]⟩
abbrev S1024x1000x50 : Shape := ⟨3, ![1024, 1000, 50]⟩

abbrev nBuf : Space → Nat
  | .hbm => 6
  | .vmem => 4
  | .smem => 0
  | _ => 0

abbrev bufTy : (tb : Table) → Fin (tcTables nBuf tb) → BufTy
  | .hbm, ⟨0, _⟩ => ⟨S1024x50, .i32⟩
  | .hbm, ⟨1, _⟩ => ⟨S1000x1000, .f32⟩
  | .hbm, ⟨2, _⟩ => ⟨S50x1024, .i32⟩
  | .hbm, ⟨3, _⟩ => ⟨S50x1x1024, .i32⟩
  | .hbm, ⟨4, _⟩ => ⟨S50x1000x1024, .f32⟩
  | .hbm, ⟨5, _⟩ => ⟨S1024x1000x50, .f32⟩
  | .local _ .vmem, ⟨0, _⟩ => ⟨S1x1x1024, .i32⟩
  | .local _ .vmem, ⟨1, _⟩ => ⟨S1x1x1024, .i32⟩
  | .local _ .vmem, ⟨2, _⟩ => ⟨S1x1000x1024, .f32⟩
  | .local _ .vmem, ⟨3, _⟩ => ⟨S1x1000x1024, .f32⟩
  | _, _ => ⟨S1024x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1000x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S1024x50 : Shape := ⟨2, ![1024, 50]⟩
abbrev S1000x1000 : Shape := ⟨2, ![1000, 1000]⟩
abbrev S51200 : Shape := ⟨1, ![51200]⟩
abbrev S_ : Shape := ⟨0, ![]⟩
abbrev S51200x1 : Shape := ⟨2, ![51200, 1]⟩
abbrev S1 : Shape := ⟨1, ![1]⟩
abbrev S1x1 : Shape := ⟨2, ![1, 1]⟩
abbrev S51200x1000 : Shape := ⟨2, ![51200, 1000]⟩
abbrev S1024x50x1000 : Shape := ⟨3, ![1024, 50, 1000]⟩
abbrev S1024x1000x50 : Shape := ⟨3, ![1024, 1000, 50]⟩

abbrev nBuf : Space → Nat
  | .hbm => 28
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S1000x1000, .f32⟩
  | .hbm, ⟨2, _⟩ => ⟨S51200, .i32⟩
  | .hbm, ⟨3, _⟩ => ⟨S_, .i32⟩
  | .hbm, ⟨4, _⟩ => ⟨S51200, .i32⟩
  | .hbm, ⟨5, _⟩ => ⟨S51200, .i1⟩
  | .hbm, ⟨6, _⟩ => ⟨S_, .i32⟩
  | .hbm, ⟨7, _⟩ => ⟨S51200, .i32⟩
  | .hbm, ⟨8, _⟩ => ⟨S51200, .i32⟩
  | .hbm, ⟨9, _⟩ => ⟨S51200, .i32⟩
  | .hbm, ⟨10, _⟩ => ⟨S51200x1, .i32⟩
  | .hbm, ⟨11, _⟩ => ⟨S1, .i32⟩
  | .hbm, ⟨12, _⟩ => ⟨S_, .i32⟩
  | .hbm, ⟨13, _⟩ => ⟨S51200x1, .i32⟩
  | .hbm, ⟨14, _⟩ => ⟨S51200x1, .i1⟩
  | .hbm, ⟨15, _⟩ => ⟨S1x1, .i32⟩
  | .hbm, ⟨16, _⟩ => ⟨S51200x1, .i32⟩
  | .hbm, ⟨17, _⟩ => ⟨S51200x1, .i1⟩
  | .hbm, ⟨18, _⟩ => ⟨S51200x1, .i1⟩
  | .hbm, ⟨19, _⟩ => ⟨S_, .i1⟩
  | .hbm, ⟨20, _⟩ => ⟨S51200, .i1⟩
  | .hbm, ⟨21, _⟩ => ⟨S51200x1000, .f32⟩
  | .hbm, ⟨22, _⟩ => ⟨S51200x1000, .i1⟩
  | .hbm, ⟨23, _⟩ => ⟨S_, .f32⟩
  | .hbm, ⟨24, _⟩ => ⟨S51200x1000, .f32⟩
  | .hbm, ⟨25, _⟩ => ⟨S51200x1000, .f32⟩
  | .hbm, ⟨26, _⟩ => ⟨S1024x50x1000, .f32⟩
  | .hbm, ⟨27, _⟩ => ⟨S1024x1000x50, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Spec.lean ====
/- The one-hot encoding of a table of labels, the function that both programs are shown to compute. -/
module

public import Idealize.ShloMosaic.PureOps.Ideal
public import Idealize.ShloMosaic.Lib.ValueIdx

@[expose] public section

noncomputable section

namespace Cert.OneHot

open Idealize.ShloMosaic

/-- One or zero, as an extended real: whether the label `x` is the class `k`. -/
def hit (x : BitVec 32) (k : Nat) : EReal := if x = BitVec.ofNat 32 k then 1 else 0

/-- The encoding of labels `t` with the classes on the middle axis: entry `(i, k, j)` says whether `t (i, j)` is `k`. -/
def encode (t : (⟨2, ![1024, 50]⟩ : Shape).Idx → BitVec 32) : (⟨3, ![1024, 1000, 50]⟩ : Shape).Idx → EReal :=
  fun y => hit (t (ValueIdx.ix2 (y 0) (y 2))) (y 1).val

/-- The same encoding in the order in which the kernel writes it: entry `(j, k, i)` says whether `t (i, j)` is `k`. -/
def encodeFlipped (t : (⟨2, ![1024, 50]⟩ : Shape).Idx → BitVec 32) : (⟨3, ![50, 1000, 1024]⟩ : Shape).Idx → EReal :=
  fun y => hit (t (ValueIdx.ix2 (y 2) (y 0))) (y 1).val

/-- An equality test of words, widened and read as a number, is one or zero. -/
theorem test_eq_hit (k : Nat) (x : BitVec 32) :
    ((((IntOp.cmpi .eq (BitVec.ofNat 32 k) x).setWidth 32).toInt : ℝ) : EReal) = hit x k := by
  unfold hit IntOp.cmpi
  by_cases h : x = BitVec.ofNat 32 k
  · rw [if_pos h, h]; simp
  · rw [if_neg h]
    have h' : (BitVec.ofNat 32 k == x) = false := beq_eq_false_iff_ne.mpr fun e => h e.symm
    rw [h']; simp

end Cert.OneHot

end
-- ==== Proof.KernelValue.lean ====
/- What the kernel's run leaves in its result: one block of the region's array, the whole array, the array after the
   host's last transpose, and the run itself. -/
module

public import proofs.«01_k».proof.Proof.Spec
public import proofs.«01_k».proof.Proof.Gen.KernelIdeal.Frame
public import Idealize.ShloMosaic.Lib.Pipeline.ValueKit
public import Idealize.ShloMosaic.Lib.StableHlo.Run
public import Idealize.ShloMosaic.Lib.Pointwise

@[expose] public section

noncomputable section

namespace Cert.KernelIdeal.OneHot

open Idealize.ShloMosaic Idealize.ShloMosaic.TcCoe Idealize.SL.Sem
open Cert.KernelIdeal Cert.KernelIdeal.Gen Cert.OneHot

variable (m : (ℓ : Loc nD τ sig) → Buf (Elt Ideal) ℓ) (ρ : Dev nD → PrngReg)

/-- The label table of device `c`. -/
abbrev labels (c : Dev nD) : Vec Ideal S1024x50 .i32 := m ((c : Thread nD τ).loc main_arg0)

/-- The body's stored value at `(0, k, i)` says whether the `i`-th word of its input block is `k`. -/
theorem pay_apply (x : Vec Ideal S1x1x1024 .i32) (y : S1x1000x1024.Idx) :
    k0_pay1 (F := Ideal) x y = hit (x (ValueIdx.ix3 0 0 (y 2))) (y 1).val := by
  unfold k0_pay1
  dsimp only
  show ((((IntOp.cmpi .eq (iota .tc S1x1000x1024 32 [1] _ y) (broadcastTo S1x1000x1024 _ _ y)).setWidth 32).toInt : ℝ) : EReal) = _
  rw [iota_single_apply, shapeCast_shapeCast]
  rw [broadcastTo_apply x _ y (ValueIdx.ix3 0 0 (y 2)) (by intro a; fin_cases a <;> rfl)]
  exact test_eq_hit _ _

/-- What the region finds in its operand: the label at `(i, j)` stands at `(j, 0, i)`. -/
theorem operand_apply (c : Dev nD) (y : S50x1x1024.Idx) :
    V m c main_v1 y = labels m c (ValueIdx.ix2 (y 2) (y 0)) := by
  have e : V m c main_v1 = shapeCast S50x1x1024 (transpose S50x1024 [1, 0] (labels m c) transposes_S1024x50_S50x1024_1_0)
      shapeCasts_S50x1024_S50x1x1024 := by
    unfold V V0 hostOps0
    simp only [List.flatten_cons, List.flatten_nil, List.append_nil]
    after_results
    rfl
  rw [e]
  refine (shapeCast_apply _ _ y (ValueIdx.ix2 (y 0) (y 2)) ?_).trans
    (transpose_apply [1, 0] _ _ _ _ (fun b => match b with | ⟨0, _⟩ => rfl | ⟨1, _⟩ => rfl))
  · rw [Shape.rowMajor_val_two, Shape.rowMajor_val_three]
    have h1 : (y 1).val < 1 := (y 1).isLt
    show (y 0).val * 1024 + (y 2).val = ((y 0).val * 1 + (y 1).val) * 1024 + (y 2).val
    omega

/-- Point `t`'s blocks of both windows are the `t`-th slabs of their arrays. -/
theorem index_eq : ∀ t : Fin cfg0.N, win0_0.index t = ![t.val, 0, 0] ∧ win0_1.index t = ![t.val, 0, 0] :=
  (by decide +kernel : ∀ t : Fin grid0.N, _)

/-- The region's result array, once all its blocks are written back, is the encoding in the kernel's order. -/
theorem array_eq (c : Dev nD) : (dats m 0 c).arrAt 1 cfg0.N = encodeFlipped (labels m c) := by
  refine (dats m 0 c).arrAt_eq_of_covers 1 _ (by decide +kernel) fun t hf y => ?_
  blk_simp
  rw [after0_1]
  unfold out0_1
  frame_out
  rw [pay_apply]
  unfold encodeFlipped
  blk_simp [iblk]
  rw [operand_apply]
  have e0 : ((win0_0.blk t).view.emb (ValueIdx.ix3 0 0 (y 2)) 0).val = ((win0_1.blk t).view.emb y 0).val := by
    blk_simp [(index_eq t).1, (index_eq t).2]
  have e2 : ((win0_0.blk t).view.emb (ValueIdx.ix3 0 0 (y 2)) 2).val = ((win0_1.blk t).view.emb y 2).val := by
    blk_simp [(index_eq t).1, (index_eq t).2]
    simp
    rfl
  have e1 : win0_1.index t 1 * 1000 + (y 1).val = (y 1).val := by
    rw [(index_eq t).2]
    simp
  rw [e1]
  exact congrArg (fun x => hit x (y 1).val) (congrArg (labels m c) (congrArg₂ ValueIdx.ix2 (Fin.ext e2) (Fin.ext e0)))

/-- The program's result after the last host transpose is the encoding with the classes on the middle axis. -/
theorem result_eq (c : Dev nD) :
    Pipeline.afterTail₀ cfgs (dats m) 0 (V0 m) [hostOps1] c main_v3 = encode (labels m c) := by
  have e : Pipeline.afterTail₀ cfgs (dats m) 0 (V0 m) [hostOps1] c main_v3
      = transpose S1024x1000x50 [2, 1, 0] ((dats m 0 c).arrAt 1 cfg0.N) transposes_S50x1000x1024_S1024x1000x50_2_1_0 := by
    unfold Pipeline.afterTail₀ hostOps1
    simp only [List.flatten_cons, List.flatten_nil, List.append_nil]
    after_results
    exact congrArg (fun x => transpose S1024x1000x50 [2, 1, 0] x transposes_S50x1000x1024_S1024x1000x50_2_1_0)
      (Pipeline.withArrays_arr spec0 launch0.win.arr_inj c (V0 m c) _ 1)
  rw [e, array_eq]
  funext y
  exact transpose_apply [2, 1, 0] _ _ y (ValueIdx.ix3 (y 2) (y 1) (y 0))
    (fun b => match b with | ⟨0, _⟩ => rfl | ⟨1, _⟩ => rfl | ⟨2, _⟩ => rfl)

/-- The kernel terminates with its result at the encoding of the labels, and with its arguments unchanged. -/
theorem run : θ_run defs (onTc (τ := τ) (main (F := Ideal))) ⟨m, fun _ => 0, ρ⟩ (fun r => ∀ c : Dev nD,
      r.2.mem ((c.tc : Thread nD τ).loc main_v3) = encode (labels m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.rest_eq c main_v3 (by decide)).trans (result_eq m c),
    (h.rest_eq c main_arg0 (by decide)).trans (W_main_arg0 m (dats m) c),
    (h.rest_eq c main_arg1 (by decide)).trans (W_main_arg1 m (dats m) c)⟩) (run_main m ρ)

end Cert.KernelIdeal.OneHot

end
-- ==== Proof.Precond.lean ====
/- What the precondition says of the arguments: every label names a class, and the table is the identity. -/
module

public import proofs.«01_k».proof.Proof.Spec
public import proofs.«01_k».proof.Pre_labels_and_identity
public import Idealize.ShloMosaic.Lib.ReduceAll
public import Idealize.ShloMosaic.Lib.Affine
public import Idealize.ShloMosaic.Lib.IdealHost
public import Idealize.ShloMosaic.Lib.Pipeline.Value
public import Idealize.ShloMosaic.Lib.StableHlo.Predicate

@[expose] public section

noncomputable section

namespace Cert.OneHot

open Idealize.ShloMosaic
open Cert.Pre_labels_and_identity

variable [Facts]

/-- The two parts of the precondition, each with a result of 1. -/
theorem parts {x0 : IVec S1024x50 32} {x1 : FVec Ideal S1000x1000 .f32} (h : fn (F := Ideal) x0 x1 = fun _ => 1#1) :
    (∀ i, IntOp.cmpi .sge (x0 i) 0#32 = 1#1 ∧ IntOp.cmpi .slt (x0 i) 1000#32 = 1#1)
    ∧ ∀ i, cmpf (F := Ideal) .oeq x1 (fn_where (F := Ideal) (cmpi .eq (iotaInDim S1000x1000 32 0) (iotaInDim S1000x1000 32 1))
        (constant S_ .f32 0x3F800000#32) (constant S_ .f32 0x00000000#32)) i = 1#1 := by
  have hs : Subsingleton S_.Idx := ⟨fun a b => funext fun k => k.elim0⟩
  obtain ⟨hl, hi⟩ := IntOp.andi_eq_one.1 (congrFun h (fun a => a.elim0))
  refine ⟨fun i => IntOp.andi_eq_one.1 ?_, fun i => Host.reduce_andi_all _ _ _ _ _ hi i⟩
  exact Host.reduce_andi_all _ _ _ _ _ hl i

/-- Under the precondition every label is at least 0 and below 1000. -/
theorem label_bounds {x0 : IVec S1024x50 32} {x1 : FVec Ideal S1000x1000 .f32} (h : fn (F := Ideal) x0 x1 = fun _ => 1#1)
    (i : S1024x50.Idx) : 0 ≤ (x0 i).toInt ∧ (x0 i).toInt < 1000 :=
  ⟨IntOp.cmpi_sge.1 ((parts h).1 i).1, IntOp.cmpi_slt.1 ((parts h).1 i).2⟩

/-- Under the precondition entry `(a, b)` of the table is 1 where `a = b` and 0 elsewhere. -/
theorem table_entry {x0 : IVec S1024x50 32} {x1 : FVec Ideal S1000x1000 .f32} (h : fn (F := Ideal) x0 x1 = fun _ => 1#1)
    (i : S1000x1000.Idx) : x1 i = hit (BitVec.ofNat 32 (i 0).val) (i 1).val := by
  have e := (parts h).2 i
  unfold fn_where at e
  have e' : Ideal.cmp .oeq (x1 i) (Scalar.select (IntOp.cmpi .eq (BitVec.ofNat 32 (i 0).val) (BitVec.ofNat 32 (i 1).val))
      (Ideal.ofBits .f32 0x3F800000#32) (Ideal.ofBits .f32 0x00000000#32)) = 1#1 := e
  have e'' := of_decide_eq_true ((StableHlo.Predicate.ofBool_eq_one_iff _).1 e')
  rw [e'', Ideal.ofBits_one_f32, Ideal.ofBits_zero_f32]
  unfold Scalar.select hit
  exact if_congr IntOp.cmpi_eq rfl rfl

end Cert.OneHot

end
-- ==== Proof.RefValue.lean ====
/- What the reference computes where every label names a class and the table is the identity: the gathered row of the
   table, put on the middle axis, is the encoding. -/
module

public import proofs.«01_k».proof.Proof.Spec
public import proofs.«01_k».proof.Proof.Gen.ReferenceIdeal.Read
public import Idealize.ShloMosaic.Lib.ReduceAll
public import Idealize.ShloMosaic.Lib.Affine
public import Idealize.ShloMosaic.Lib.Routing.Ops

@[expose] public section

noncomputable section

namespace Cert.ReferenceIdeal.OneHot

open Idealize.ShloMosaic Cert.OneHot
open Cert.ReferenceIdeal Cert.ReferenceIdeal.Gen Cert.ReferenceIdeal.Read

variable {x0 : IVec S1024x50 32} {x1 : FVec Ideal S1000x1000 .f32}

/-- No label is negative, so none is wrapped round: the gather's start at `i` is the `i`-th label in row-major order. -/
theorem start_apply (h0 : ∀ i, 0 ≤ (x0 i).toInt ∧ (x0 i).toInt < 1000) (i : S51200x1.Idx) :
    val_main_call0_v5 (F := Ideal) x0 i = x0 (idx_main_v0 (idx_main_call0_v5 i)) := by
  rw [val_main_call0_v5_apply, val_main_call0_v4_apply, val_main_call0_v1_apply, val_main_call0_v0_apply,
    val_main_call0_c_apply, val_main_v0_apply]
  unfold Scalar.select
  rw [if_neg]
  intro h
  have := IntOp.cmpi_slt.1 h
  have := (h0 (idx_main_v0 (idx_main_call0_v5 i))).1
  simp at *
  omega

/-- Every start lies in the table, so the reference keeps every gathered row. -/
theorem valid_apply (h0 : ∀ i, 0 ≤ (x0 i).toInt ∧ (x0 i).toInt < 1000) (i : S51200.Idx) :
    val_main_call0_v12 (F := Ideal) x0 i = 1#1 := by
  unfold val_main_call0_v12
  refine Host.reduce_andi_one _ _ _ _ _ rfl fun k => ?_
  have hk := h0 (idx_main_v0 (idx_main_call0_v5 k))
  rw [val_main_call0_v11_apply, IntOp.andi_eq_one, val_main_call0_v7_apply, val_main_call0_v10_apply, start_apply h0,
    IntOp.cmpi_sge, IntOp.cmpi_sle, val_main_call0_v6_apply, val_main_call0_c_2_apply, val_main_call0_v9_apply,
    val_main_call0_v8_apply, val_main_call0_c_1_apply]
  have e0 : (0#32).toInt = 0 := by decide
  have e1 : (999#32).toInt = 999 := by decide
  rw [e0, e1]
  omega

/-- Row `i` of the gathered table says which class the `i`-th label is. -/
theorem row_apply (h0 : ∀ i, 0 ≤ (x0 i).toInt ∧ (x0 i).toInt < 1000)
    (h1 : ∀ i, x1 i = hit (BitVec.ofNat 32 (i 0).val) (i 1).val) (i : S51200x1000.Idx) :
    val_main_v1 (F := Ideal) x0 x1 i = hit (x0 (idx_main_v0 (idx_main_call0_v14 i))) (i 1).val := by
  rw [val_main_v1_apply, val_main_call0_v14_apply, valid_apply h0]
  show val_main_call0_v13 (F := Ideal) x0 x1 i = _
  unfold val_main_call0_v13
  have hx := h0 (idx_main_v0 (idx_main_call0_v14 i))
  generalize hw : x0 (idx_main_v0 (idx_main_call0_v14 i)) = w at hx
  have hlt : w.toNat < 1000 := by
    have := BitVec.toInt_eq_toNat_cond w
    omega
  have hwn : w = BitVec.ofNat 32 w.toNat := by simp
  have hs := start_apply h0 (ValueIdx.ix2 (i 0) 0)
  have e := Routing.gather_row gather_S1000x1000_S51200x1_S51200x1000_1_0_n_n_0_1_11000 rfl rfl rfl rfl rfl x1
    (val_main_call0_v5 (F := Ideal) x0) (i 0) (i 1) ⟨w.toNat, hlt⟩ (hs.trans (hw.trans hwn)) (by decide)
  rw [h1] at e
  have hi : i = ValueIdx.ix2 (i 0) (i 1) := ValueIdx.eq_ix2 i
  exact (congrArg _ hi).trans (e.trans (congrArg (fun v => hit v (i 1).val) hwn.symm))

/-- The reference's result is the encoding of the labels. -/
theorem result_eq (h0 : ∀ i, 0 ≤ (x0 i).toInt ∧ (x0 i).toInt < 1000)
    (h1 : ∀ i, x1 i = hit (BitVec.ofNat 32 (i 0).val) (i 1).val) :
    val_main_v3 (F := Ideal) x0 x1 = encode x0 := by
  funext y
  rw [val_main_v3_apply, val_main_v2_apply, row_apply h0 h1]
  have b0 : (y 0).val < 1024 := (y 0).isLt
  have b1 : (y 1).val < 1000 := (y 1).isLt
  have b2 : (y 2).val < 50 := (y 2).isLt
  have ec : (idx_main_v2 (idx_main_v3 y) 1).val = (y 1).val := by
    show (((y 0).val * 50 + (y 2).val) * 1000 + (y 1).val) % 1000 = (y 1).val
    omega
  have er : idx_main_v0 (idx_main_call0_v14 (idx_main_v2 (idx_main_v3 y))) = ValueIdx.ix2 (y 0) (y 2) := by
    funext a
    match a with
    | ⟨0, _⟩ =>
      refine Fin.ext ?_
      show (((y 0).val * 50 + (y 2).val) * 1000 + (y 1).val) / 1000 / 50 = (y 0).val
      omega
    | ⟨1, _⟩ =>
      refine Fin.ext ?_
      show (((y 0).val * 50 + (y 2).val) * 1000 + (y 1).val) / 1000 % 50 = (y 2).val
      omega
  rw [ec, er]
  rfl

end Cert.ReferenceIdeal.OneHot

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_labels_and_identity
public import proofs.«01_k».proof.Proof.KernelValue
public import proofs.«01_k».proof.Proof.Precond
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The reference runs, its arguments end unchanged, and every semaphore counter ends at zero: it declares no semaphore. -/
theorem reference_frame : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- Where every label names a class and the table is the identity, the kernel and the reference both end with the
    one-hot encoding of the labels, the classes on the middle axis, and with their arguments unchanged. -/
theorem results_agree : Cert.algebraic_KernelIdeal_ReferenceIdeal_pre_labels_and_identity := by
  intro m ρ m' ρ' hpre hagree
  refine ⟨fun c => Cert.OneHot.encode (Cert.KernelIdeal.OneHot.labels m c), Cert.KernelIdeal.OneHot.run m ρ,
    (θ_run Cert.ReferenceIdeal.defs _ _).mono (fun r h c => ⟨(h c).1.trans ?_, (h c).2⟩) (Cert.ReferenceIdeal.Value.run m' ρ')⟩
  rw [Cert.ReferenceIdeal.Read.val_main_v3_eq, (hagree c).1, (hagree c).2]
  exact Cert.ReferenceIdeal.OneHot.result_eq (Cert.OneHot.label_bounds (hpre c)) (Cert.OneHot.table_entry (hpre c))

/-- Everything the certificate claims. -/
theorem claim : Cert.Claim :=
  ⟨Cert.Kernel.Gen.facts, Cert.KernelIdeal.Gen.facts, Cert.ReferenceIdeal.Gen.facts, Cert.Pre_labels_and_identity.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, results_agree⟩

end Cert.Proof

end
